-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x576x64 : Shape := ⟨3, ![16, 576, 64]⟩
abbrev S8192x64 : Shape := ⟨2, ![8192, 64]⟩
abbrev S_ : Shape := ⟨0, ![]⟩

class Facts : Prop where
  bcast_S_S16x576x64 : S_.BroadcastsInDim S16x576x64 (![] : Fin 0 → Fin S16x576x64.rank)
  reducesTo_S16x576x64_S_d0_1_2 : S16x576x64.ReducesTo [0, 1, 2] S_
  h_S_ : 0 < S_.numel
  bcast_S_S8192x64 : S_.BroadcastsInDim S8192x64 (![] : Fin 0 → Fin S8192x64.rank)
  reducesTo_S8192x64_S_d0_1 : S8192x64.ReducesTo [0, 1] S_

variable [Facts]

def fn {F : FTy → Type} [FloatOps F] (main_arg0 : FVec F S16x576x64 .f32) (main_arg1 : FVec F S8192x64 .f32) : IVec S_ 1 :=
  let main_v0 : FVec F S16x576x64 .f32 := Host.absf main_arg0
  let main_cst : FVec F S_ .f32 := constant S_ .f32 0x7F800000#32
  let main_v1 : FVec F S16x576x64 .f32 := broadcastInDim S16x576x64 ![] bcast_S_S16x576x64 main_cst
  let main_v2 : IVec S16x576x64 1 := cmpf .olt main_v0 main_v1
  let main_c : IVec S_ 1 := constantI S_ 1 1#1
  let main_v3 : IVec S_ 1 := (fun x v => Host.reduce IntOp.andi x v reducesTo_S16x576x64_S_d0_1_2 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S16x576x64 : Shape := ⟨3, ![16, 576, 64]⟩
abbrev S8192x64 : Shape := ⟨2, ![8192, 64]⟩
abbrev S9216x64 : Shape := ⟨2, ![9216, 64]⟩
abbrev S64x8192 : Shape := ⟨2, ![64, 8192]⟩
abbrev S9216x1 : Shape := ⟨2, ![9216, 1]⟩
abbrev S1024x64 : Shape := ⟨2, ![1024, 64]⟩
abbrev S1024x1 : Shape := ⟨2, ![1024, 1]⟩
abbrev S1x8192 : Shape := ⟨2, ![1, 8192]⟩
abbrev S8192 : Shape := ⟨1, ![8192]⟩
abbrev S1024x8192 : Shape := ⟨2, ![1024, 8192]⟩
abbrev S1024 : Shape := ⟨1, ![1024]⟩
abbrev S1x128 : Shape := ⟨2, ![1, 128]⟩
abbrev S1024x128 : Shape := ⟨2, ![1024, 128]⟩
abbrev S16x576 : Shape := ⟨2, ![16, 576]⟩

abbrev nBuf : Space → Nat
  | .hbm => 8
  | .vmem => 9
  | .smem => 0
  | _ => 0

abbrev bufTy : (tb : Table) → Fin (tcTables nBuf tb) → BufTy
  | .hbm, ⟨0, _⟩ => ⟨S16x576x64, .f32⟩
  | .hbm, ⟨1, _⟩ => ⟨S8192x64, .f32⟩
  | .hbm, ⟨2, _⟩ => ⟨S9216x64, .f32⟩
  | .hbm, ⟨3, _⟩ => ⟨S64x8192, .f32⟩
  | .hbm, ⟨4, _⟩ => ⟨S9216x1, .i32⟩
  | .hbm, ⟨5, _⟩ => ⟨S9216x1, .f32⟩
  | .hbm, ⟨6, _⟩ => ⟨S16x576, .i32⟩
  | .hbm, ⟨7, _⟩ => ⟨S16x576, .f32⟩
  | .local _ .vmem, ⟨0, _⟩ => ⟨S1024x64, .f32⟩
  | .local _ .vmem, ⟨1, _⟩ => ⟨S1024x64, .f32⟩
  | .local _ .vmem, ⟨2, _⟩ => ⟨S8192x64, .f32⟩
  | .local _ .vmem, ⟨3, _⟩ => ⟨S64x8192, .f32⟩
  | .local _ .vmem, ⟨4, _⟩ => ⟨S1024x1, .i32⟩
  | .local _ .vmem, ⟨5, _⟩ => ⟨S1024x1, .i32⟩
  | .local _ .vmem, ⟨6, _⟩ => ⟨S1024x1, .f32⟩
  | .local _ .vmem, ⟨7, _⟩ => ⟨S1024x1, .f32⟩
  | .local _ .vmem, ⟨8, _⟩ => ⟨S1x8192, .f32⟩
  | _, _ => ⟨S16x576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x576x64 : Shape := ⟨3, ![16, 576, 64]⟩
abbrev S8192x64 : Shape := ⟨2, ![8192, 64]⟩
abbrev S9216x64 : Shape := ⟨2, ![9216, 64]⟩
abbrev S_ : Shape := ⟨0, ![]⟩
abbrev S9216 : Shape := ⟨1, ![9216]⟩
abbrev S9216x1 : Shape := ⟨2, ![9216, 1]⟩
abbrev S8192 : Shape := ⟨1, ![8192]⟩
abbrev S1x8192 : Shape := ⟨2, ![1, 8192]⟩
abbrev S9216x8192 : Shape := ⟨2, ![9216, 8192]⟩
abbrev S64x8192 : Shape := ⟨2, ![64, 8192]⟩
abbrev S16x576 : Shape := ⟨2, ![16, 576]⟩

abbrev nBuf : Space → Nat
  | .hbm => 45
  | .vmem => 0
  | .smem => 0
  | _ => 0

abbrev bufTy : (tb : Table) → Fin (tcTables nBuf tb) → BufTy
  | .hbm, ⟨0, _⟩ => ⟨S16x576x64, .f32⟩
  | .hbm, ⟨1, _⟩ => ⟨S8192x64, .f32⟩
  | .hbm, ⟨2, _⟩ => ⟨S9216x64, .f32⟩
  | .hbm, ⟨3, _⟩ => ⟨S9216x64, .f32⟩
  | .hbm, ⟨4, _⟩ => ⟨S_, .f32⟩
  | .hbm, ⟨5, _⟩ => ⟨S9216, .f32⟩
  | .hbm, ⟨6, _⟩ => ⟨S9216x1, .f32⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S9216x8192, .f32⟩
  | .hbm, ⟨12, _⟩ => ⟨S9216x8192, .f32⟩
  | .hbm, ⟨13, _⟩ => ⟨S9216x8192, .f32⟩
  | .hbm, ⟨14, _⟩ => ⟨S64x8192, .f32⟩
  | .hbm, ⟨15, _⟩ => ⟨S9216x8192, .f32⟩
  | .hbm, ⟨16, _⟩ => ⟨S_, .f32⟩
  | .hbm, ⟨17, _⟩ => ⟨S9216x8192, .f32⟩
  | .hbm, ⟨18, _⟩ => ⟨S9216x8192, .f32⟩
  | .hbm, ⟨19, _⟩ => ⟨S9216x8192, .f32⟩
  | .hbm, ⟨20, _⟩ => ⟨S8192, .i32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S1x8192, .i1⟩
  | .hbm, ⟨25, _⟩ => ⟨S_, .f32⟩
  | .hbm, ⟨26, _⟩ => ⟨S9216x8192, .i1⟩
  | .hbm, ⟨27, _⟩ => ⟨S9216x8192, .f32⟩
  | .hbm, ⟨28, _⟩ => ⟨S9216x8192, .f32⟩
  | .hbm, ⟨29, _⟩ => ⟨S9216x8192, .i32⟩
  | .hbm, ⟨30, _⟩ => ⟨S_, .f32⟩
  | .hbm, ⟨31, _⟩ => ⟨S_, .i32⟩
  | .hbm, ⟨32, _⟩ => ⟨S9216, .f32⟩
  | .hbm, ⟨33, _⟩ => ⟨S9216, .i32⟩
  | .hbm, ⟨34, _⟩ => ⟨S_, .f32⟩
  | .hbm, ⟨35, _⟩ => ⟨S9216, .f32⟩
  | .hbm, ⟨36, _⟩ => ⟨S_, .f32⟩
  | .hbm, ⟨37, _⟩ => ⟨S9216, .f32⟩
  | .hbm, ⟨38, _⟩ => ⟨S9216, .i1⟩
  | .hbm, ⟨39, _⟩ => ⟨S_, .i32⟩
  | .hbm, ⟨40, _⟩ => ⟨S_, .i32⟩
  | .hbm, ⟨41, _⟩ => ⟨S9216, .i32⟩
  | .hbm, ⟨42, _⟩ => ⟨S9216, .i32⟩
  | .hbm, ⟨43, _⟩ => ⟨S16x576, .i32⟩
  | .hbm, ⟨44, _⟩ => ⟨S16x576, .f32⟩
  | _, _ => ⟨S16x576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v19 : Ref sig .tc := ⟨.hbm, 28, rfl⟩
abbrev main_call1_v0 : Ref sig .tc := ⟨.hbm, 29, rfl⟩
abbrev main_call1_cst : Ref sig .tc := ⟨.hbm, 30, rfl⟩
abbrev main_call1_c : Ref sig .tc := ⟨.hbm, 31, rfl⟩
abbrev main_call1_v1_0 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_call2_v0 : Ref sig .tc := ⟨.hbm, 40, rfl⟩
abbrev main_call2_v1 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]
-- ==== Proof.FirstMin.lean ====
/-
  The first position at which a finite sequence of extended reals takes its minimum, and how to find it lane by lane:
  the sequence of 8192 scores is cut into 64 chunks of 128 lanes; every lane keeps the first of its own minima, and the
  least position among the lanes that hold the overall minimum is the first minimum of the whole sequence.
-/
module

public import Idealize.ShloMosaic.Lib.Pointwise

@[expose] public section

namespace Cert.Nearest

/-- Position `j` is the FIRST minimum of `s 0, …, s (N - 1)`: nothing is smaller, and everything before is larger. -/
def FirstMin (N : ℕ) (s : ℕ → EReal) (j : ℕ) : Prop :=
  j < N ∧ ∀ k < N, s j ≤ s k ∧ (k < j → s j < s k)

/-- There is at most one first minimum. -/
theorem FirstMin.unique {N : ℕ} {s : ℕ → EReal} {i j : ℕ} (hi : FirstMin N s i) (hj : FirstMin N s j) : i = j := by
  rcases lt_trichotomy i j with h | h | h
  · exact absurd (hi.2 j hj.1).1 (not_le.mpr ((hj.2 i hi.1).2 h))
  · exact h
  · exact absurd (hj.2 i hi.1).1 (not_le.mpr ((hi.2 j hj.1).2 h))

/-- The sequence of one element has its first minimum at 0. -/
theorem FirstMin.one (s : ℕ → EReal) : FirstMin 1 s 0 :=
  ⟨Nat.one_pos, fun k hk => by
    obtain rfl : k = 0 := by omega
    exact ⟨le_refl _, fun h => absurd h (lt_irrefl _)⟩⟩

/-- A further element takes the place exactly when it is smaller than the minimum so far. -/
theorem FirstMin.step {N : ℕ} {s : ℕ → EReal} {j : ℕ} (h : FirstMin N s j) :
    FirstMin (N + 1) s (if s N < s j then N else j) := by
  split_ifs with hlt
  · refine ⟨Nat.lt_succ_self N, fun k hk => ?_⟩
    rcases Nat.lt_succ_iff_lt_or_eq.mp hk with hk' | rfl
    · have := lt_of_lt_of_le hlt (h.2 k hk').1
      exact ⟨this.le, fun _ => this⟩
    · exact ⟨le_refl _, fun h' => absurd h' (lt_irrefl _)⟩
  · refine ⟨Nat.lt_succ_of_lt h.1, fun k hk => ?_⟩
    rcases Nat.lt_succ_iff_lt_or_eq.mp hk with hk' | rfl
    · exact h.2 k hk'
    · exact ⟨not_lt.mp hlt, fun h' => absurd h' (not_lt.mpr h.1.le)⟩

/-- A sequence that is not empty has a first minimum. -/
theorem FirstMin.exists (s : ℕ → EReal) : ∀ N : ℕ, ∃ j, FirstMin (N + 1) s j
  | 0 => ⟨0, FirstMin.one s⟩
  | N + 1 => by
    obtain ⟨j, hj⟩ := FirstMin.exists s N
    exact ⟨_, hj.step⟩

/-- The first minimum depends on the order of the elements only. -/
theorem FirstMin.congr {N : ℕ} {s t : ℕ → EReal} {j : ℕ} (h : FirstMin N s j)
    (hst : ∀ i < N, ∀ k < N, s i ≤ s k ↔ t i ≤ t k) : FirstMin N t j :=
  ⟨h.1, fun k hk => ⟨(hst j h.1 k hk).mp (h.2 k hk).1, fun hlt => by
    have := (h.2 k hk).2 hlt
    rw [← not_le, hst k hk j h.1, not_le] at this
    exact this⟩⟩

/-- What lane `l` holds after `n` chunks: the least score `mn` that it met, and the position `ix` (as a number) at which
    it met it first. -/
def LaneMin (s : ℕ → EReal) (l n : ℕ) (mn ix : EReal) : Prop :=
  ∃ c, FirstMin n (fun c => s (128 * c + l)) c ∧ mn = s (128 * c + l) ∧ ix = ((128 * c + l : ℕ) : ℝ)

/-- After the first chunk a lane holds its score there and its own number. -/
theorem LaneMin.one (s : ℕ → EReal) (l : ℕ) : LaneMin s l 1 (s l) ((l : ℕ) : ℝ) :=
  ⟨0, FirstMin.one _, by simp, by simp⟩

/-- One chunk more: the smaller score is kept, and the position is replaced exactly when the new score is smaller. -/
theorem LaneMin.step {s : ℕ → EReal} {l n : ℕ} {mn ix : EReal} (h : LaneMin s l n mn ix) :
    LaneMin s l (n + 1) (min mn (s (128 * n + l)))
      (if s (128 * n + l) < mn then (((128 * n + l : ℕ) : ℝ) : EReal) else ix) := by
  obtain ⟨c, hc, rfl, rfl⟩ := h
  refine ⟨_, hc.step, ?_, ?_⟩
  · split_ifs with hlt
    · exact min_eq_right hlt.le
    · exact min_eq_left (not_lt.mp hlt)
  · split_ifs <;> rfl

/-- The lanes put together: with every lane at the first of its own 64 minima, the least of the lanes' scores is the score
    of the first minimum `j` of all 8192, and the least position among the lanes that hold that score is `j`. -/
theorem lanes_firstMin (s : ℕ → EReal) (mn ix : Fin 128 → EReal) (big : EReal) (hbig : ((8192 : ℝ) : EReal) ≤ big)
    (h : ∀ l : Fin 128, LaneMin s l 64 (mn l) (ix l)) :
    ∃ j, FirstMin 8192 s j ∧ (Finset.univ : Finset (Fin 128)).fold min ⊤ mn = s j
      ∧ (Finset.univ : Finset (Fin 128)).fold min ⊤ (fun l => if mn l = s j then ix l else big) = ((j : ℕ) : ℝ) := by
  obtain ⟨j, hj⟩ := FirstMin.exists s 8191
  have hl : j % 128 < 128 := Nat.mod_lt _ (by norm_num)
  have hjd : 128 * (j / 128) + j % 128 = j := Nat.div_add_mod j 128
  have hj8 : j < 8192 := hj.1
  have hlane : FirstMin 64 (fun c => s (128 * c + j % 128)) (j / 128) := by
    refine ⟨by omega, fun k hk => ?_⟩
    have h2 := hj.2 (128 * k + j % 128) (by omega)
    dsimp only
    rw [hjd]
    exact ⟨h2.1, fun hlt => h2.2 (by omega)⟩
  have hme : mn ⟨j % 128, hl⟩ = s j ∧ ix ⟨j % 128, hl⟩ = ((j : ℕ) : ℝ) := by
    obtain ⟨c, hc, hm, hi⟩ := h ⟨j % 128, hl⟩
    obtain rfl := hc.unique hlane
    dsimp only at hm hi
    rw [hjd] at hm hi
    exact ⟨hm, hi⟩
  refine ⟨j, hj, le_antisymm ?_ ?_, le_antisymm ?_ ?_⟩
  · exact Finset.fold_min_le _ |>.mpr (.inr ⟨⟨j % 128, hl⟩, Finset.mem_univ _, hme.1.le⟩)
  · refine Finset.le_fold_min _ |>.mpr ⟨le_top, fun l _ => ?_⟩
    obtain ⟨c, hc, hm, -⟩ := h l
    rw [hm]
    have := hc.1; have := l.isLt
    exact (hj.2 _ (by omega)).1
  · exact Finset.fold_min_le _ |>.mpr (.inr ⟨⟨j % 128, hl⟩, Finset.mem_univ _, by rw [if_pos hme.1, hme.2]⟩)
  · refine Finset.le_fold_min _ |>.mpr ⟨le_top, fun l _ => ?_⟩
    split_ifs with hq
    · obtain ⟨c, hc, hm, hi⟩ := h l
      rw [hi]
      have := hc.1; have := l.isLt
      have hle : j ≤ 128 * c + (l : ℕ) := by
        by_contra hlt
        have h3 := (hj.2 (128 * c + l) (by omega)).2 (by omega)
        rw [← hm, hq] at h3
        exact lt_irrefl _ h3
      exact EReal.coe_le_coe_iff.mpr (Nat.cast_le.mpr hle)
    · refine le_trans (EReal.coe_le_coe_iff.mpr ?_) hbig
      have : (j : ℝ) ≤ ((8192 : ℕ) : ℝ) := Nat.cast_le.mpr hj8.le
      exact_mod_cast this

end Cert.Nearest
-- ==== Proof.ArgMin.lean ====
/-
  The reference's arg-min over a row is the row's first minimum: its fold keeps one of the two pairs it compares, keeps the
  first minimum's pair against any other of the row, and prefers it to any other of the row and to the initial pair.
-/
module

public import proofs.«01_k».proof.Proof.Gen.ReferenceIdeal
public import proofs.«01_k».proof.Proof.FirstMin
public import Idealize.ShloMosaic.PureOps.Ideal.Laws
public import Idealize.ShloMosaic.Lib.Pointwise

@[expose] public section

noncomputable section

open Idealize.ShloMosaic Idealize.SL.Sem

namespace Cert.ReferenceIdeal.ArgMin

open Cert.ReferenceIdeal Cert.Nearest

/-- The fold's step over the extended reals: the pair on the left if its value is smaller, or equal with a smaller
    position; the pair on the right otherwise. -/
theorem step_eq (a b : EReal × BitVec 32) : reducer_argmin_f32_i32 (F := Ideal) a b
    = if a.1 < b.1 ∨ (a.1 = b.1 ∧ a.2.slt b.2 = true) then a else b := by
  obtain ⟨a1, a2⟩ := a
  obtain ⟨b1, b2⟩ := b
  unfold reducer_argmin_f32_i32 Scalar.select IntOp.ori IntOp.andi IntOp.cmpi
  simp only [Ideal.cmpf_def, Ideal.cmp]
  by_cases h1 : a1 < b1
  · simp [h1, h1.ne]
  · by_cases h2 : a1 = b1
    · subst h2
      cases h3 : a2.slt b2 <;> simp [h3]
    · simp [h1, h2]

/-- Positions compare as numbers. -/
theorem slt_nat (i j : ℕ) (hi : i < 8192) (hj : j < 8192) :
    (BitVec.ofNat 32 i).slt (BitVec.ofNat 32 j) = decide (i < j) := by
  have e : ∀ n, n < 8192 → (BitVec.ofNat 32 n).toInt = (n : ℤ) := fun n hn => by
    rw [BitVec.toInt_ofNat']
    norm_num
    rw [Int.bmod_eq_of_le] <;> omega
  rw [BitVec.slt_eq_decide, e i hi, e j hj, decide_eq_decide]
  exact Nat.cast_lt

section

variable {d : ℕ → EReal} {j : ℕ} (hj : FirstMin 8192 d j) (hfin : d j < ⊤)
include hj

/-- The first minimum's pair is kept against any pair of the row. -/
theorem keep (k : ℕ) (hk : k < 8192) :
    reducer_argmin_f32_i32 (F := Ideal) (d j, BitVec.ofNat 32 j) (d k, BitVec.ofNat 32 k) = (d j, BitVec.ofNat 32 j) := by
  rw [step_eq]
  dsimp only
  rw [slt_nat _ _ hj.1 hk]
  split
  · rfl
  · rename_i h
    simp only [decide_eq_true_eq, not_or, not_lt, not_and] at h
    have e : d k = d j := le_antisymm h.1 (hj.2 k hk).1
    have : ¬k < j := fun hlt => ((hj.2 k hk).2 hlt).ne e.symm
    have := h.2 e.symm
    rw [show k = j by omega]

/-- It is preferred to any pair of the row … -/
theorem prefer (k : ℕ) (hk : k < 8192) :
    reducer_argmin_f32_i32 (F := Ideal) (d k, BitVec.ofNat 32 k) (d j, BitVec.ofNat 32 j) = (d j, BitVec.ofNat 32 j) := by
  rw [step_eq]
  dsimp only
  rw [slt_nat _ _ hk hj.1, if_neg]
  simp only [decide_eq_true_eq, not_or, not_lt, not_and]
  exact ⟨(hj.2 k hk).1, fun e => not_lt.mp fun hlt => absurd e ((hj.2 k hk).2 hlt).ne'⟩

include hfin in
/-- … and to the initial pair. -/
theorem prefer_init :
    reducer_argmin_f32_i32 (F := Ideal) (⊤, 0#32) (d j, BitVec.ofNat 32 j) = (d j, BitVec.ofNat 32 j) := by
  rw [step_eq, if_neg]
  rintro (h | ⟨h, -⟩)
  · exact absurd h not_top_lt
  · exact hfin.ne h.symm

/-- Once it is held it stays held. -/
theorem fold_keep : ∀ l : List (EReal × BitVec 32), (∀ p ∈ l, ∃ k < 8192, p = (d k, BitVec.ofNat 32 k)) →
    l.foldl (reducer_argmin_f32_i32 (F := Ideal)) (d j, BitVec.ofNat 32 j) = (d j, BitVec.ofNat 32 j)
  | [], _ => rfl
  | p :: l, h => by
    obtain ⟨k, hk, rfl⟩ := h p (List.mem_cons_self ..)
    rw [List.foldl_cons, keep hj k hk]
    exact fold_keep l fun q hq => h q (List.mem_cons_of_mem _ hq)

include hfin in
/-- The fold of a list of the row's pairs that holds the first minimum's ends at it. -/
theorem fold_eq : ∀ (l : List (EReal × BitVec 32)) (a : EReal × BitVec 32),
    (∀ p ∈ l, ∃ k < 8192, p = (d k, BitVec.ofNat 32 k)) → (a = (⊤, 0#32) ∨ ∃ k < 8192, a = (d k, BitVec.ofNat 32 k)) →
    (d j, BitVec.ofNat 32 j) ∈ l → l.foldl (reducer_argmin_f32_i32 (F := Ideal)) a = (d j, BitVec.ofNat 32 j)
  | [], _, _, _, hm => absurd hm List.not_mem_nil
  | p :: l, a, h, ha, hm => by
    have hl : ∀ q ∈ l, ∃ k < 8192, q = (d k, BitVec.ofNat 32 k) := fun q hq => h q (List.mem_cons_of_mem _ hq)
    rw [List.foldl_cons]
    by_cases hp : p = (d j, BitVec.ofNat 32 j)
    · subst hp
      have : reducer_argmin_f32_i32 (F := Ideal) a (d j, BitVec.ofNat 32 j) = (d j, BitVec.ofNat 32 j) := by
        rcases ha with rfl | ⟨k, hk, rfl⟩
        · exact prefer_init hj hfin
        · exact prefer hj k hk
      rw [this]
      exact fold_keep hj l hl
    · refine fold_eq l _ hl ?_ ((List.mem_cons.mp hm).resolve_left fun e => hp e.symm)
      rw [step_eq]
      split
      · exact ha
      · exact .inr (h p (List.mem_cons_self ..))

include hfin in
/-- THE ARG-MIN: at a row of values `d` whose first minimum is at `j` and finite, it is `j`. -/
theorem argmin_apply (x : FVec Ideal S9216x8192 .f32) (r : Fin 9216) (hx : ∀ k : Fin 8192, x (ix2 r k) = d k)
    (h : S9216x8192.ReducesTo [1] S9216) (hu : 0 < S_.numel) :
    (Host.argReduce (reducer_argmin_f32_i32 (F := Ideal)) x (iotaInDim S9216x8192 32 1) (constant S_ .f32 0x7F800000#32)
      (constantI S_ 32 0#32) h hu (ix1 r)).2 = BitVec.ofNat 32 j := by
  rw [Ideal.argReduce_eq_reduce2, Host.reduce2_eq_foldl_fiber]
  have hi : (constant (F := Ideal) S_ .f32 0x7F800000#32) (Shape.Idx.first hu) = (⊤ : EReal) := by
    show Ideal.ofBits .f32 0x7F800000#32 = ⊤
    simp [Ideal.ofBits, Ideal.ieee]
  have hi0 : constantI S_ 32 0#32 (Shape.Idx.first hu) = 0#32 := rfl
  rw [hi, hi0]
  have key := fold_eq hj hfin (Host.argReduceFiber (α := EReal) x (iotaInDim S9216x8192 32 1) h (ix1 r)) (⊤, 0#32) ?_ (.inl rfl) ?_
  · exact congrArg Prod.snd key
  · intro p hp
    simp only [Host.argReduceFiber, List.mem_map, List.mem_filter, List.mem_finRange, true_and, decide_eq_true_eq] at hp
    obtain ⟨n, hn, rfl⟩ := hp
    obtain ⟨k, hk⟩ := (Shape.ReducesTo.fiber_r2_a1 h _ _).mp hn
    refine ⟨k.val, k.isLt, ?_⟩
    rw [← hk]
    exact Prod.ext (hx k) rfl
  · simp only [Host.argReduceFiber, List.mem_map, List.mem_filter, List.mem_finRange, true_and, decide_eq_true_eq]
    refine ⟨S9216x8192.rowMajor (ix2 r ⟨j, hj.1⟩), ?_, ?_⟩
    · rw [Equiv.symm_apply_apply]
      exact (Shape.ReducesTo.fiber_r2_a1 h _ _).mpr ⟨⟨j, hj.1⟩, rfl⟩
    · rw [Equiv.symm_apply_apply]
      exact Prod.ext (hx ⟨j, hj.1⟩) rfl

include hfin in
/-- THE MINIMUM of such a row is its value there. -/
theorem min_apply (x : FVec Ideal S9216x8192 .f32) (r : Fin 9216) (hx : ∀ k : Fin 8192, x (ix2 r k) = d k)
    (h : S9216x8192.ReducesTo [1] S9216) (hu : 0 < S_.numel) :
    Host.reduce (FloatOps.minimumf (F := Ideal) (φ := .f32)) x (constant S_ .f32 0x7F800000#32) h hu (ix1 r) = d j := by
  pointwise
  simp only [hx]
  refine le_antisymm ?_ ?_
  · exact (Finset.fold_min_le _).mpr (.inr ⟨⟨j, hj.1⟩, Finset.mem_univ _, le_rfl⟩)
  · refine (Finset.le_fold_min _).mpr ⟨?_, fun k _ => (hj.2 k k.isLt).1⟩
    rw [show Ideal.ofBits .f32 0x7F800000#32 = ⊤ by simp [Ideal.ofBits, Ideal.ieee]]
    exact le_top

end

end Cert.ReferenceIdeal.ArgMin

end
-- ==== Proof.Spec.lean ====
/-
  What both programs compute, on plain families of extended reals: for every token the first nearest code (by the score
  "squared norm of the code minus twice the inner product"), its squared distance, and the identifier that results.
-/
module

public import proofs.«01_k».proof.Proof.FirstMin
public import Idealize.ShloMosaic.Lib.ValueIdx
public import Idealize.ShloMosaic.PureOps.Ideal

@[expose] public section

noncomputable section

open Idealize.ShloMosaic

namespace Cert.Nearest

/-- Token `r` of the 16 × 576 tokens counted row by row, at its coordinate `k`. -/
def token (z : (⟨3, ![16, 576, 64]⟩ : Shape).Idx → EReal) (r : Fin 9216) (k : Fin 64) : EReal :=
  z (ix3 ⟨r.val / 576, by omega⟩ ⟨r.val % 576, by omega⟩ k)

/-- Code `j` at its coordinate `k`. -/
def code (e : (⟨2, ![8192, 64]⟩ : Shape).Idx → EReal) (j : Fin 8192) (k : Fin 64) : EReal := e (ix2 j k)

/-- The squared norm of a vector. -/
def sqNorm (v : Fin 64 → EReal) : EReal := ∑ k, v k * v k

/-- The score of code `j` for the vector `v`: the code's squared norm, plus the inner product of `-2 v` with the code. Past
    the last code it is `⊤`, and never looked at. -/
def scores (v : Fin 64 → EReal) (e : Fin 8192 → Fin 64 → EReal) (j : ℕ) : EReal :=
  if h : j < 8192 then sqNorm (e ⟨j, h⟩) + ∑ k, v k * ((-2 : ℝ) : EReal) * e ⟨j, h⟩ k else ⊤

/-- The first code of least score. -/
def nearest (v : Fin 64 → EReal) (e : Fin 8192 → Fin 64 → EReal) : ℕ :=
  (FirstMin.exists (scores v e) 8191).choose

theorem nearest_spec (v : Fin 64 → EReal) (e : Fin 8192 → Fin 64 → EReal) :
    FirstMin 8192 (scores v e) (nearest v e) := (FirstMin.exists (scores v e) 8191).choose_spec

/-- The squared distance to the nearest code. -/
def distance (v : Fin 64 → EReal) (e : Fin 8192 → Fin 64 → EReal) : EReal :=
  sqNorm v + scores v e (nearest v e)

/-- The identifier: the nearest code's position, or 8192 when it is farther than 128. -/
def identifier (v : Fin 64 → EReal) (e : Fin 8192 → Fin 64 → EReal) : BitVec 32 :=
  if distance v e ≤ ((128 : ℝ) : EReal) then BitVec.ofNat 32 (nearest v e) else 8192#32

/-- The identifiers, one per token. -/
def idsOf (z : (⟨3, ![16, 576, 64]⟩ : Shape).Idx → EReal) (e : (⟨2, ![8192, 64]⟩ : Shape).Idx → EReal) (r : Fin 9216) :
    BitVec 32 := identifier (token z r) (code e)

/-- The squared distances, one per token. -/
def distOf (z : (⟨3, ![16, 576, 64]⟩ : Shape).Idx → EReal) (e : (⟨2, ![8192, 64]⟩ : Shape).Idx → EReal) (r : Fin 9216) :
    EReal := distance (token z r) (code e)

/-- The token at row `a`, column `b`. -/
def flat (a : Fin 16) (b : Fin 576) : Fin 9216 := ⟨a.val * 576 + b.val, by omega⟩

/-- The identifiers and the squared distances, laid out as 16 × 576. -/
def idsGrid (z : (⟨3, ![16, 576, 64]⟩ : Shape).Idx → EReal) (e : (⟨2, ![8192, 64]⟩ : Shape).Idx → EReal) :
    (⟨2, ![16, 576]⟩ : Shape).Idx → BitVec 32 := fun j => idsOf z e (flat (j 0) (j 1))
def distGrid (z : (⟨3, ![16, 576, 64]⟩ : Shape).Idx → EReal) (e : (⟨2, ![8192, 64]⟩ : Shape).Idx → EReal) :
    (⟨2, ![16, 576]⟩ : Shape).Idx → EReal := fun j => distOf z e (flat (j 0) (j 1))

/-- The squared distance of `v` to code `j`, expanded as the reference expands it. Past the last code it is `⊤`, and never
    looked at. -/
def sqDistances (v : Fin 64 → EReal) (e : Fin 8192 → Fin 64 → EReal) (j : ℕ) : EReal :=
  if h : j < 8192 then sqNorm v + sqNorm (e ⟨j, h⟩) - ((2 : ℝ) : EReal) * ∑ k, v k * e ⟨j, h⟩ k else ⊤

end Cert.Nearest

end
-- ==== Proof.Equation.lean ====
/-
  The equation: for finite tokens and codes, the reference's squared distance is the token's squared norm plus the kernel's
  score, so both are least at the same code.
-/
module

public import proofs.«01_k».proof.Proof.Spec

@[expose] public section

noncomputable section

open Idealize.ShloMosaic

namespace Cert.Nearest

/-- A vector of real numbers. -/
def Real64 (v : Fin 64 → EReal) : Prop := ∃ x : Fin 64 → ℝ, ∀ k, v k = ((x k : ℝ) : EReal)

theorem coe_sum (x : Fin 64 → ℝ) : ∑ k, ((x k : ℝ) : EReal) = ((∑ k, x k : ℝ) : EReal) := by
  induction (Finset.univ : Finset (Fin 64)) using Finset.induction with
  | empty => simp
  | insert a s ha ih => rw [Finset.sum_insert ha, Finset.sum_insert ha, ih, EReal.coe_add]

/-- Both are the same sum of real numbers. -/
theorem sqDistances_eq {v : Fin 64 → EReal} {e : Fin 8192 → Fin 64 → EReal} (hv : Real64 v) (he : ∀ j, Real64 (e j)) :
    ∃ (n : ℝ) (s : ℕ → ℝ), sqNorm v = ((n : ℝ) : EReal) ∧ ∀ j < 8192,
      scores v e j = ((s j : ℝ) : EReal) ∧ sqDistances v e j = ((n + s j : ℝ) : EReal) := by
  obtain ⟨x, hx⟩ := hv
  choose y hy using he
  refine ⟨∑ k, x k * x k, fun j => if h : j < 8192 then ∑ k, y ⟨j, h⟩ k * y ⟨j, h⟩ k + ∑ k, x k * (-2) * y ⟨j, h⟩ k else 0,
    ?_, fun j hj => ?_⟩
  · unfold sqNorm
    simp only [hx, ← EReal.coe_mul, coe_sum]
  · unfold scores sqDistances sqNorm
    simp only [dif_pos hj, hx, hy, ← EReal.coe_mul, coe_sum, ← EReal.coe_add, ← EReal.coe_sub, true_and]
    rw [EReal.coe_eq_coe_iff, Finset.mul_sum, add_sub_assoc, sub_eq_add_neg, ← Finset.sum_neg_distrib]
    congr 2
    exact Finset.sum_congr rfl fun k _ => by ring

/-- For finite tokens and codes, the nearest code by score is the first at the least squared distance, which is finite and is
    the distance of the specification. -/
theorem nearest_firstMin {v : Fin 64 → EReal} {e : Fin 8192 → Fin 64 → EReal} (hv : Real64 v) (he : ∀ j, Real64 (e j)) :
    FirstMin 8192 (sqDistances v e) (nearest v e) ∧ sqDistances v e (nearest v e) < ⊤
      ∧ sqDistances v e (nearest v e) = distance v e := by
  obtain ⟨n, s, hn, hs⟩ := sqDistances_eq hv he
  have hj := nearest_spec v e
  refine ⟨hj.congr fun i hi k hk => ?_, ?_, ?_⟩
  · rw [(hs i hi).1, (hs k hk).1, (hs i hi).2, (hs k hk).2, EReal.coe_le_coe_iff, EReal.coe_le_coe_iff, add_le_add_iff_left]
  · rw [(hs _ hj.1).2]
    exact EReal.coe_lt_top _
  · unfold distance
    rw [(hs _ hj.1).2, (hs _ hj.1).1, hn, EReal.coe_add]

end Cert.Nearest

end
-- ==== Proof.ReferenceTerms.lean ====
/-
  The reference's results as terms of its arguments, step by step, with the matrix of squared distances and the place of a
  row's first minimum read at an index.
-/
module

public import proofs.«01_k».proof.Proof.ArgMin
public import proofs.«01_k».proof.Proof.Equation
public import Idealize.ShloMosaic.Lib.Claim

@[expose] public section

noncomputable section

open Idealize.ShloMosaic Idealize.ShloMosaic.TcCoe Idealize.SL.Sem

namespace Cert.ReferenceIdeal.Value

open Cert.ReferenceIdeal Cert.ReferenceIdeal.Gen Cert.ReferenceIdeal.ArgMin Cert.Nearest

variable (z : FVec Ideal S16x576x64 .f32) (e : FVec Ideal S8192x64 .f32)

/-- The tokens, one per row. -/
def rows : FVec Ideal S9216x64 .f32 := shapeCast S9216x64 z shapeCasts_S16x576x64_S9216x64

/-- The squared distances of every token to every code. -/
def matrix : FVec Ideal S9216x8192 .f32 :=
  subf
    (addf
      (broadcastInDim S9216x8192 ![0, 1] bcast_S9216x1_S9216x8192_0_1
        (broadcastInDim S9216x1 ![0] bcast_S9216_S9216x1_0
          (Host.reduceAdd (mulf (rows z) (rows z)) (constant S_ .f32 0x00000000#32) reducesTo_S9216x64_S9216_d1 h_S_)))
      (broadcastInDim S9216x8192 ![0, 1] bcast_S1x8192_S9216x8192_0_1
        (broadcastInDim S1x8192 ![1] bcast_S8192_S1x8192_1
          (Host.reduceAdd (mulf e e) (constant S_ .f32 0x00000000#32) reducesTo_S8192x64_S8192_d1 h_S_))))
    (mulf (broadcastInDim S9216x8192 ![] bcast_S_S9216x8192 (constant S_ .f32 0x40000000#32))
      (Host.dotGeneral dot_S9216x64_S64x8192_S9216x8192_1_0_0_1_n_n none (rows z)
        (transpose S64x8192 [1, 0] e transposes_S8192x64_S64x8192_1_0)))

/-- The same where the code's position is in range, which is everywhere. -/
def masked : FVec Ideal S9216x8192 .f32 :=
  select
    (broadcastInDim S9216x8192 ![0, 1] bcast_S1x8192_S9216x8192_0_1
      (broadcastInDim S1x8192 ![1] bcast_S8192_S1x8192_1
        (cmpi .slt (iotaInDim S8192 32 0) (broadcastInDim S8192 ![] bcast_S_S8192 (constantI S_ 32 8192#32)))))
    (matrix z e) (broadcastInDim S9216x8192 ![] bcast_S_S9216x8192 (constant S_ .f32 0x7149F2CA#32))

/-- The least squared distance of every token. -/
def least : FVec Ideal S9216 .f32 :=
  Host.reduce FloatOps.minimumf (masked z e) (constant S_ .f32 0x7F800000#32) reducesTo_S9216x8192_S9216_d1 h_S_

/-- The positions of an array of pairs. -/
def second (p : S9216.Idx → Ideal .f32 × BitVec 32) : IVec S9216 32 := fun j => (p j).2

theorem second_apply (p : S9216.Idx → Ideal .f32 × BitVec 32) (j : S9216.Idx) : second p j = (p j).2 := rfl

/-- The position of every row's first minimum. -/
def place (x : FVec Ideal S9216x8192 .f32) : IVec S9216 32 :=
  second (Host.argReduce (reducer_argmin_f32_i32 (F := Ideal)) x (iotaInDim S9216x8192 32 1)
    (constant S_ .f32 0x7F800000#32) (constantI S_ 32 0#32) reducesTo_S9216x8192_S9216_d1 h_S_)

/-- It is the place of the row's first minimum, if that is finite. -/
theorem place_apply {d : ℕ → EReal} {j : ℕ} (hj : FirstMin 8192 d j) (hfin : d j < ⊤) (x : FVec Ideal S9216x8192 .f32)
    (r : Fin 9216) (hx : ∀ k : Fin 8192, x (ix2 r k) = d k) : place x (ix1 r) = BitVec.ofNat 32 j := by
  have h := argmin_apply hj hfin x r hx reducesTo_S9216x8192_S9216_d1 h_S_
  unfold place
  rw [second_apply]
  exact h

/-- Its code's position. -/
def position : IVec S9216 32 := place (masked z e)

/-- The identifiers. -/
def idents : IVec S9216 32 :=
  select (cmpf .ole (least z e) (broadcastInDim S9216 ![] bcast_S_S9216 (constant S_ .f32 0x43000000#32)))
    (position z e) (broadcastInDim S9216 ![] bcast_S_S9216 (constantI S_ 32 8192#32))

/-- The matrix at a token and a code. -/
theorem masked_apply (r : Fin 9216) (j : Fin 8192) :
    masked z e (ix2 r j) = sqDistances (token z r) (code e) j.val := by
  pointwise [masked, matrix, rows]
  have hm : IntOp.cmpi CmpIPredicate.slt (BitVec.ofNat 32 j.val) 8192#32 = 1#1 := by
    have h : (BitVec.ofNat 32 j.val).toInt = (j.val : ℤ) := by
      rw [BitVec.toInt_ofNat']
      norm_num
      rw [Int.bmod_eq_of_le] <;> omega
    have : (BitVec.ofNat 32 j.val).slt 8192#32 = true := by
      rw [BitVec.slt_eq_decide, h]
      simp
    simp only [IntOp.cmpi, this]
    rfl
  have h2 : Ideal.ofBits .f32 0x40000000#32 = ((2 : ℝ) : EReal) := by
    simp [Ideal.ofBits, Ideal.ieee, -EReal.coe_mul]; norm_num
  rw [hm, h2]
  unfold sqDistances sqNorm
  rw [dif_pos j.isLt]
  exact if_pos rfl

end Cert.ReferenceIdeal.Value

end
-- ==== Proof.ReferenceRun.lean ====
/-
  The reference's run: from any memory it ends with the terms of its arguments in its results.
-/
module

public import proofs.«01_k».proof.Proof.ReferenceTerms
public import proofs.«01_k».proof.Proof.Equation
public import Idealize.ShloMosaic.Lib.Claim

@[expose] public section

set_option maxRecDepth 4000

noncomputable section

open Idealize.ShloMosaic Idealize.ShloMosaic.TcCoe Idealize.SL.Sem

namespace Cert.ReferenceIdeal.Value

open Cert.ReferenceIdeal Cert.ReferenceIdeal.Gen Cert.ReferenceIdeal.ArgMin Cert.Nearest

variable (m : (ℓ : Loc nD τ sig) → Buf (Elt Ideal) ℓ) (ρ : Dev nD → PrngReg)

/-- The reference runs to these terms of its arguments, which end unchanged. -/
theorem run : θ_run defs (onTc (τ := τ) (main (F := Ideal))) ⟨m, fun _ => 0, ρ⟩ (fun r => ∀ c : Dev nD,
    r.2.mem ((c.tc : Thread nD τ).loc main_v25)
      = shapeCast S16x576 (idents (m ((c.tc : Thread nD τ).loc main_arg0)) (m ((c.tc : Thread nD τ).loc main_arg1)))
          shapeCasts_S9216_S16x576
    ∧ r.2.mem ((c.tc : Thread nD τ).loc main_v26)
      = shapeCast S16x576 (least (m ((c.tc : Thread nD τ).loc main_arg0)) (m ((c.tc : Thread nD τ).loc main_arg1)))
          shapeCasts_S9216_S16x576
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  hlo_run
  all_goals simp only [StableHlo.TRef.ofBuf_toBuf]
  all_goals simp -implicitDefEqProofs only [StableHlo.TRef.toBuf, StableHlo.TRef.ofBuf, cast_eq]
  · unfold idents position place second least masked matrix rows
    rfl
  · unfold least masked matrix rows
    rfl

end Cert.ReferenceIdeal.Value

end
-- ==== Proof.ReferenceFrame.lean ====
/-
  The reference's frame: it runs without fault, leaves its arguments as they were, and every semaphore, of
  which it has none, at zero.
-/
module

public import proofs.«01_k».proof.Defs
public import proofs.«01_k».proof.Proof.ReferenceRun
public import Idealize.ShloMosaic.Lib.Claim
public import Idealize.ShloMosaic.Adequacy
public import Idealize.ShloMosaic.Init

@[expose] public section

noncomputable section

open Idealize.ShloMosaic Idealize.ShloMosaic.TcCoe Idealize.SL.Sem

namespace Cert.ReferenceIdeal.Value

/-- From any memory the reference ends with its arguments unchanged and its semaphores at zero. -/
theorem frame : Cert.quiescent_ReferenceIdeal := by
  intro m g _
  exact θ_run_mono (run m g) fun r h => ⟨fun c => (h c).2.2, sem_eq_zero_of_no_sems (by decide) r.2⟩

end Cert.ReferenceIdeal.Value

end
-- ==== Proof.Chain.lean ====
/-
  The kernel's unrolled chain over the 64 chunks of 128 codes, read lane by lane: each of its steps is ONE step of
  `Cert.Nearest.LaneMin`, so after the last chunk every lane of every row holds the first of its own minima.
-/
module

public import proofs.«01_k».proof.Proof.Gen.KernelIdeal.Skeleton
public import proofs.«01_k».proof.Proof.FirstMin

@[expose] public section

noncomputable section

open Idealize.ShloMosaic

namespace Cert.KernelIdeal.Block

open Cert.KernelIdeal Cert.KernelIdeal.Gen Cert.Nearest

/-- The score of code `j` for row `r`: the code's squared norm plus the row's product with it (the row scaled by -2);
    past the last code, the top. -/
def score (c2 : FVec Ideal S1x8192 .f32) (q : FVec Ideal S1024x8192 .f32) (r : Fin 1024) (j : ℕ) : EReal :=
  if h : j < 8192 then c2 (ix2 0 ⟨j, h⟩) + q (ix2 r ⟨j, h⟩) else ⊤

/-- What the vectors of running minima and of running positions hold after `n` chunks, at every row and lane. -/
def Chain (c2 : FVec Ideal S1x8192 .f32) (q : FVec Ideal S1024x8192 .f32) (n : ℕ)
    (mn ix : FVec Ideal S1024x128 .f32) : Prop :=
  ∀ (r : Fin 1024) (l : Fin 128), LaneMin (score c2 q r) l n (mn (ix2 r l)) (ix (ix2 r l))

/-- Chunk `n`'s offset as the printed word: its value is `128 n`. -/
def ChunkWord (n : ℕ) (w : BitVec 32) : Prop := Ideal.ofBits .f32 w = (((128 * n : ℕ) : ℝ) : EReal)

/-- A chunk's scores, a slice of the squared norms spread over the rows plus a slice of the products, at a lane. -/
theorem chunk_apply (c2 : FVec Ideal S1x8192 .f32) (q : FVec Ideal S1024x8192 .f32) (n off : ℕ) (hn : n < 64)
    (hoff : off = 128 * n) (h1 : S1x8192.Slices ![0, off] S1x128) (h2 : S1024x8192.Slices ![0, off] S1024x128)
    (hb : S1x128.Broadcasts S1024x128) (r : Fin 1024) (l : Fin 128) :
    addf (broadcastTo S1024x128 (extractStridedSlice S1x128 ![0, off] c2 h1) hb)
        (extractStridedSlice S1024x128 ![0, off] q h2) (ix2 r l)
      = score c2 q r (128 * n + l) := by
  subst hoff
  have hl := l.isLt
  unfold score
  rw [dif_pos (by omega)]
  pointwise

/-- The lane numbers at a lane. -/
theorem lane_apply (l : Fin 128) : (k0_pay11 (F := Ideal)) (ix2 0 l) = (((l : ℕ) : ℝ) : EReal) := by
  unfold k0_pay11
  pointwise
  have hl := l.isLt
  show (((BitVec.ofNat 32 (l : ℕ)).toInt : ℝ) : EReal) = _
  rw [BitVec.toInt_eq_toNat_of_lt (by rw [BitVec.toNat_ofNat]; omega), BitVec.toNat_ofNat, Nat.mod_eq_of_lt (by omega)]
  simp

/-- A chunk's positions, the lane numbers plus the chunk's offset spread over the rows, at a lane. -/
theorem pos_apply (n : ℕ) (w : BitVec 32) (hw : ChunkWord n w) (hs : S1x128.ShapeCasts S1x128)
    (hb : S1x128.Broadcasts S1024x128) (r : Fin 1024) (l : Fin 128) :
    broadcastTo S1024x128 (shapeCast S1x128 (addf (k0_pay11 (F := Ideal)) (broadcast S1x128 (Scalar.ofBits .f32 w))) hs) hb
      (ix2 r l) = (((128 * n + l : ℕ) : ℝ) : EReal) := by
  pointwise
  rw [lane_apply, hw, ← EReal.coe_add]
  push_cast
  rw [add_comm]

/-- The first chunk: its scores and its positions are what every lane holds. -/
theorem chain_first (c2 : FVec Ideal S1x8192 .f32) (q : FVec Ideal S1024x8192 .f32) (w : BitVec 32) (hw : ChunkWord 0 w)
    (h1 : S1x8192.Slices ![0, 0] S1x128) (h2 : S1024x8192.Slices ![0, 0] S1024x128)
    (hb : S1x128.Broadcasts S1024x128) (hs : S1x128.ShapeCasts S1x128) (hb' : S1x128.Broadcasts S1024x128) :
    Chain c2 q 1
      (addf (broadcastTo S1024x128 (extractStridedSlice S1x128 ![0, 0] c2 h1) hb)
        (extractStridedSlice S1024x128 ![0, 0] q h2))
      (broadcastTo S1024x128 (shapeCast S1x128 (addf (k0_pay11 (F := Ideal)) (broadcast S1x128 (Scalar.ofBits .f32 w))) hs) hb') := by
  intro r l
  rw [chunk_apply c2 q 0 0 (by norm_num) rfl, pos_apply 0 w hw]
  simp only [Nat.mul_zero, Nat.zero_add]
  exact LaneMin.one _ _

/-- One chunk more: the minimum with its scores, and the select of its positions where its scores are smaller. -/
theorem chain_step (c2 : FVec Ideal S1x8192 .f32) (q : FVec Ideal S1024x8192 .f32) (n off : ℕ) (w : BitVec 32)
    (mn ix : FVec Ideal S1024x128 .f32) (h1 : S1x8192.Slices ![0, off] S1x128)
    (h2 : S1024x8192.Slices ![0, off] S1024x128) (hb : S1x128.Broadcasts S1024x128) (hs : S1x128.ShapeCasts S1x128)
    (hb' : S1x128.Broadcasts S1024x128) (h : Chain c2 q n mn ix) (hn : n < 64) (hoff : off = 128 * n)
    (hw : ChunkWord n w) :
    Chain c2 q (n + 1)
      (minimumf mn (addf (broadcastTo S1024x128 (extractStridedSlice S1x128 ![0, off] c2 h1) hb)
        (extractStridedSlice S1024x128 ![0, off] q h2)))
      (select (cmpf .olt (addf (broadcastTo S1024x128 (extractStridedSlice S1x128 ![0, off] c2 h1) hb)
          (extractStridedSlice S1024x128 ![0, off] q h2)) mn)
        (broadcastTo S1024x128 (shapeCast S1x128 (addf (k0_pay11 (F := Ideal)) (broadcast S1x128 (Scalar.ofBits .f32 w))) hs) hb')
        ix) := by
  intro r l
  have h' := (h r l).step
  rw [← chunk_apply c2 q n off hn hoff h1 h2 hb r l, ← pos_apply n w hw hs hb' r l] at h'
  convert h' using 1
  · rfl
  show Scalar.select (Ideal.cmp .olt _ _) _ _ = _
  unfold Ideal.cmp
  dsimp only
  split_ifs with hlt
  · rw [decide_eq_true hlt]; rfl
  · rw [decide_eq_false hlt]; rfl

/-- The first three chunks (the chain's first stretch), the third one's scores still to be merged into the minimum. -/
theorem chain_start (c2 : FVec Ideal S1x8192 .f32) (x0 : FVec Ideal S1024x64 .f32) (x1 : FVec Ideal S8192x64 .f32) :
    Chain c2 (k0_pay9 x0 x1) 3 (minimumf (k0_pay14 c2 x0 x1) (k0_pay15 c2 x0 x1)) (k0_pay16 c2 x0 x1) := by
  refine chain_step c2 _ 2 256 0x43800000#32 _ _ _ _ _ _ _
    (chain_step c2 _ 1 128 0x43000000#32 _ _ _ _ _ _ _ (chain_first c2 _ 0x00000000#32 ?_ _ _ _ _ _) ?_ ?_ ?_) ?_ ?_ ?_
  all_goals first | omega | (unfold ChunkWord; simp [Ideal.ofBits, Ideal.ieee, -EReal.coe_mul]; done) | skip
  all_goals (unfold ChunkWord; simp [Ideal.ofBits, Ideal.ieee, -EReal.coe_mul])
  all_goals norm_num

end Cert.KernelIdeal.Block

end
-- ==== Proof.Block.lean ====
/-
  What the kernel's body leaves after one grid point, from the point's blocks: the identifiers and the distances stored are
  the printed final expressions over a chain (`Chain.lean`) of all 64 chunks, and the carried scratch holds the squared
  norms of the codes.
-/
module

public import proofs.«01_k».proof.Proof.Gen.KernelIdeal.Frame
public import proofs.«01_k».proof.Proof.Chain
public import Idealize.ShloMosaic.Lib.Pipeline.Value
public import Idealize.ShloMosaic.Lib.Tactic

@[expose] public section

set_option maxRecDepth 20000

noncomputable section

open Idealize.ShloMosaic Idealize.ShloMosaic.TcCoe Idealize.SL.Sem

namespace Cert.KernelIdeal.Block

open Cert.KernelIdeal Cert.KernelIdeal.Gen Cert.Nearest

/-- The printed offsets of a whole-buffer access are the zero offsets. -/
theorem hz : (![0, 0] : Fin 2 → Nat) = fun _ => 0 := funext fun a => by fin_cases a <;> rfl

/-- What a point leaves in the two outputs' buffers, when the squared norms it works with are `c2` and its blocks of tokens
    and codes are `x0` and `x1`: the final expressions over some running minima `A`, pending scores `B` and running
    positions `C` that are the chain's after 63 chunks (the last chunk is part of the final expressions). -/
def Stored (c2 : FVec Ideal S1x8192 .f32) (x0 : FVec Ideal S1024x64 .f32) (x1 : FVec Ideal S8192x64 .f32)
    (ids : IVec S1024x1 32) (dist : FVec Ideal S1024x1 .f32) : Prop :=
  ∃ A B C : FVec Ideal S1024x128 .f32, Chain c2 (k0_pay9 x0 x1) 63 (minimumf A B) C
    ∧ ids = k0_pay6 c2 (k0_pay9 x0 x1) (k0_pay10 x0) k0_pay11 A B C
    ∧ dist = k0_pay5 c2 (k0_pay9 x0 x1) (k0_pay10 x0) A B

section Cases

variable (c : Dev nD) (i : grid0.Coords)
  (arg1 : Memref sig .tc .vmem S1024x64 .f32) (harg1 : arg1.IsWhole)
  (arg2 : Memref sig .tc .vmem S8192x64 .f32) (harg2 : arg2.IsWhole)
  (arg3 : Memref sig .tc .vmem S64x8192 .f32) (harg3 : arg3.IsWhole)
  (arg4 : Memref sig .tc .vmem S1024x1 .i32) (harg4 : arg4.IsWhole)
  (arg5 : Memref sig .tc .vmem S1024x1 .f32) (harg5 : arg5.IsWhole)
  (arg6 : Memref sig .tc .vmem S1x8192 .f32) (harg6 : arg6.IsWhole)
  (x0 : Vec Ideal S1024x64 .f32) (x1 : Vec Ideal S8192x64 .f32) (x2 : Vec Ideal S64x8192 .f32)

/-- At the points after the first: the carried squared norms are used. -/
theorem stored_B (hc0 : ¬cond0_0 i) (xs0 : Vec Ideal S1x8192 .f32) :
    Stored xs0 x0 x1
      (out0_B_3 c i arg1 harg1 arg2 harg2 arg3 harg3 arg4 harg4 arg5 harg5 arg6 harg6 hc0 x0 x1 x2 xs0)
      (out0_B_4 c i arg1 harg1 arg2 harg2 arg3 harg3 arg4 harg4 arg5 harg5 arg6 harg6 hc0 x0 x1 x2 xs0) := by
  refine ⟨?A, ?B, ?C, ?chain, ?ids, ?dist⟩
  case ids =>
    unfold out0_B_3
    rw [View.read_writes_eq_canon _ _ _ (cover0_B_3 c i arg1 harg1 arg2 harg2 arg3 harg3 arg4 harg4 arg5 harg5 arg6 harg6 hc0 x0 x1 x2 xs0)]
    unfold kernelRun0_B
    dsimp only
    sl_unfold_words
    rw [View.canon_unit_zero hz]
    simp only [View.readAt_eq_ld, harg1.read_unread, harg2.read_unread, harg6.read_unread,
      View.ld_unit_zero (S := S1024x64) hz, View.ld_unit_zero (S := S8192x64) hz, View.ld_unit_zero (S := S1x8192) hz,
      shapeCast_self]
    rfl
  case dist =>
    unfold out0_B_4
    rw [View.read_writes_eq_canon _ _ _ (cover0_B_4 c i arg1 harg1 arg2 harg2 arg3 harg3 arg4 harg4 arg5 harg5 arg6 harg6 hc0 x0 x1 x2 xs0)]
    unfold kernelRun0_B
    dsimp only
    sl_unfold_words
    rw [View.canon_unit_zero hz]
    simp only [View.readAt_eq_ld, harg1.read_unread, harg2.read_unread, harg6.read_unread,
      View.ld_unit_zero (S := S1024x64) hz, View.ld_unit_zero (S := S8192x64) hz, View.ld_unit_zero (S := S1x8192) hz,
      shapeCast_self]
  case chain =>
    iterate 60 refine chain_step xs0 (k0_pay9 x0 x1) _ _ _ _ _ _ _ _ _ _ ?_ (by omega) rfl ?_
    exact chain_start _ _ _
    all_goals (unfold ChunkWord; simp [Ideal.ofBits, Ideal.ieee, -EReal.coe_mul])
    all_goals norm_num

/-- At the first point the scratch is left holding the codes' squared norms … -/
theorem scratch_A (hc0 : cond0_0 i) :
    sout0_A_0 c i arg1 harg1 arg2 harg2 arg3 harg3 arg4 harg4 arg5 harg5 arg6 harg6 hc0 x0 x1 x2 = k0_pay7 x2 := by
  unfold sout0_A_0
  rw [View.read_writes_eq_canon _ _ _ (scover0_A_0 c i arg1 harg1 arg2 harg2 arg3 harg3 arg4 harg4 arg5 harg5 arg6 harg6 hc0 x0 x1 x2)]
  unfold kernelRun0_A
  dsimp only
  sl_unfold_words
  rw [View.canon_unit_zero hz]
  simp only [View.readAt_eq_ld, harg3.read_unread, View.ld_unit_zero (S := S64x8192) hz, shapeCast_self]

/-- … and the outputs are computed from them, read back. -/
theorem stored_A (hc0 : cond0_0 i) :
    Stored (k0_pay7 x2) x0 x1
      (out0_A_3 c i arg1 harg1 arg2 harg2 arg3 harg3 arg4 harg4 arg5 harg5 arg6 harg6 hc0 x0 x1 x2)
      (out0_A_4 c i arg1 harg1 arg2 harg2 arg3 harg3 arg4 harg4 arg5 harg5 arg6 harg6 hc0 x0 x1 x2) := by
  refine ⟨?A, ?B, ?C, ?chain, ?ids, ?dist⟩
  case ids =>
    unfold out0_A_3
    rw [View.read_writes_eq_canon _ _ _ (cover0_A_3 c i arg1 harg1 arg2 harg2 arg3 harg3 arg4 harg4 arg5 harg5 arg6 harg6 hc0 x0 x1 x2)]
    unfold kernelRun0_A
    dsimp only
    sl_unfold_words
    rw [View.canon_unit_zero hz, View.readCov_unit_zero (S := S1x8192) _ hz]
    simp only [View.readAt_eq_ld, harg1.read_unread, harg2.read_unread, harg3.read_unread,
      View.ld_unit_zero (S := S1024x64) hz, View.ld_unit_zero (S := S8192x64) hz, View.ld_unit_zero (S := S64x8192) hz,
      shapeCast_self]
    rfl
  case dist =>
    unfold out0_A_4
    rw [View.read_writes_eq_canon _ _ _ (cover0_A_4 c i arg1 harg1 arg2 harg2 arg3 harg3 arg4 harg4 arg5 harg5 arg6 harg6 hc0 x0 x1 x2)]
    unfold kernelRun0_A
    dsimp only
    sl_unfold_words
    rw [View.canon_unit_zero hz, View.readCov_unit_zero (S := S1x8192) _ hz]
    simp only [View.readAt_eq_ld, harg1.read_unread, harg2.read_unread, harg3.read_unread,
      View.ld_unit_zero (S := S1024x64) hz, View.ld_unit_zero (S := S8192x64) hz, View.ld_unit_zero (S := S64x8192) hz,
      shapeCast_self]
  case chain =>
    iterate 60 refine chain_step (k0_pay7 x2) (k0_pay9 x0 x1) _ _ _ _ _ _ _ _ _ _ ?_ (by omega) rfl ?_
    exact chain_start _ _ _
    all_goals (unfold ChunkWord; simp [Ideal.ofBits, Ideal.ieee, -EReal.coe_mul])
    all_goals norm_num

end Cases

end Cert.KernelIdeal.Block

end
-- ==== Proof.Finish.lean ====
/-
  What a grid point stores, row by row: the distance is the row's squared norm plus its least score, and the identifier is
  the first position of that least score, or 8192 when the distance is above 128.
-/
module

public import proofs.«01_k».proof.Proof.Block

@[expose] public section

noncomputable section

open Idealize.ShloMosaic

namespace Cert.KernelIdeal.Block

open Cert.KernelIdeal Cert.KernelIdeal.Gen Cert.Nearest

/-- A small natural number, as a real, converts to its own word. -/
theorem fptosi_nat (j : ℕ) (h : j < 8192) : Ideal.fptosi 32 ((j : ℝ) : EReal) = BitVec.ofNat 32 j := by
  rw [Ideal.fptosi, Ideal.toIntClamped_coe, if_pos (Nat.cast_nonneg j), Int.floor_natCast]
  have : max (-((2 ^ (32 - 1) : ℕ) : ℤ)) (min (((2 ^ (32 - 1) : ℕ) : ℤ) - 1) (j : ℤ)) = (j : ℤ) := by
    norm_num
    omega
  rw [this, BitVec.ofInt_natCast]

/-- The words of the printed constants. -/
theorem ofBits_top : Ideal.ofBits .f32 0x7F800000#32 = ⊤ := by simp [Ideal.ofBits, Ideal.ieee]
theorem ofBits_128 : Ideal.ofBits .f32 0x43000000#32 = ((128 : ℝ) : EReal) := by
  simp [Ideal.ofBits, Ideal.ieee, -EReal.coe_mul]; norm_num
theorem ofBits_big : ((8192 : ℝ) : EReal) ≤ Ideal.ofBits .f32 0x4E6E6B28#32 := by
  simp [Ideal.ofBits, Ideal.ieee, -EReal.coe_mul]; norm_num

/-- The row-by-row reading of `Stored`. -/
theorem stored_row {c2 : FVec Ideal S1x8192 .f32} {x0 : FVec Ideal S1024x64 .f32} {x1 : FVec Ideal S8192x64 .f32}
    {ids : IVec S1024x1 32} {dist : FVec Ideal S1024x1 .f32} (h : Stored c2 x0 x1 ids dist) (r : Fin 1024) :
    ∃ j, FirstMin 8192 (score c2 (k0_pay9 (F := Ideal) x0 x1) r) j
      ∧ dist (ix2 r 0) = k0_pay10 (F := Ideal) x0 (ix2 r 0) + score c2 (k0_pay9 (F := Ideal) x0 x1) r j
      ∧ ids (ix2 r 0) = if k0_pay10 (F := Ideal) x0 (ix2 r 0) + score c2 (k0_pay9 (F := Ideal) x0 x1) r j ≤ ((128 : ℝ) : EReal)
          then BitVec.ofNat 32 j else 8192#32 := by
  obtain ⟨A, B, C, hch, rfl, rfl⟩ := h
  generalize k0_pay9 (F := Ideal) x0 x1 = q at *
  generalize k0_pay10 (F := Ideal) x0 = z2 at *
  have hfull : Chain c2 q 64 (k0_pay3 c2 q A B) _ :=
    chain_step c2 q 63 8064 0x45FC0000#32 _ _ slices_S1x8192_o0_8064_S1x128 slices_S1024x8192_o0_8064_S1024x128
      broadcasts_S1x128_S1024x128 shapeCasts_S1x128_S1x128 broadcasts_S1x128_S1024x128 hch (by omega) rfl
      (by unfold ChunkWord; simp [Ideal.ofBits, Ideal.ieee, -EReal.coe_mul]; norm_num)
  obtain ⟨j, hj, hmin, harg⟩ := lanes_firstMin (score c2 q r) _ _ _ ofBits_big (fun l => hfull r l)
  have h4 : k0_pay4 c2 q A B (ix2 r 0) = score c2 q r j := by
    rw [← hmin]
    unfold k0_pay4
    pointwise
    rw [ofBits_top]
  have h5 : k0_pay5 c2 q z2 A B (ix2 r 0) = z2 (ix2 r 0) + score c2 q r j := by
    rw [← h4]; rfl
  refine ⟨j, hj, h5, ?_⟩
  rw [← h5]
  unfold k0_pay6
  pointwise [k0_pay2]
  pointwise at harg
  rw [h4, ofBits_top, ofBits_128, harg]
  exact congrArg (fun w => if k0_pay5 c2 q z2 A B (ix2 r 0) ≤ ((128 : ℝ) : EReal) then w else 8192#32) (fptosi_nat j hj.1)

end Cert.KernelIdeal.Block

end
-- ==== Proof.KernelArray.lean ====
/-
  What the kernel's two result arrays hold: per token, the identifier and the squared distance of the specification
  (`Spec.lean`), from the blocks each grid point reads and the squared norms carried from the first point to the last.
-/
module

public import proofs.«01_k».proof.Proof.Finish
public import proofs.«01_k».proof.Proof.Spec
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem

namespace Cert.KernelIdeal.Arrays

open Cert.KernelIdeal Cert.KernelIdeal.Gen Cert.KernelIdeal.Block Cert.Nearest

variable (m : (ℓ : Loc nD τ sig) → Buf (Elt Ideal) ℓ)

/-- The tokens and the codes, as launched. -/
abbrev tokensOf (c : Dev nD) : FVec Ideal S16x576x64 .f32 := m ((c : Thread nD τ).loc main_arg0)
abbrev codesOf (c : Dev nD) : FVec Ideal S8192x64 .f32 := m ((c : Thread nD τ).loc main_arg1)

/-- Every window's block index at every point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- Token `i` of point `t`'s block. -/
def row (t : Fin cfg0.N) (i : Fin 1024) : Fin 9216 :=
  ⟨t.val * 1024 + i.val, by have := lt_of_lt_of_eq t.isLt (show cfg0.N = 9 from N_0); omega⟩

/-- The region finds the tokens laid out row by row … -/
theorem tokens_entry (c : Dev nD) (r : Fin 9216) (k : Fin 64) :
    V m c main_v0 (ix2 r k) = token (tokensOf m c) r k := by
  unfold V V0
  simp only [hostOps0, List.flatten_cons, List.flatten_nil, List.append_nil]
  entry_read
  unfold token tokensOf
  pointwise

/-- … and the codes transposed. -/
theorem codes_entry (c : Dev nD) (k : Fin 64) (j : Fin 8192) :
    V m c main_v1 (ix2 k j) = code (codesOf m c) j k := by
  unfold V V0
  simp only [hostOps0, List.flatten_cons, List.flatten_nil, List.append_nil]
  entry_read
  unfold code codesOf
  pointwise

theorem iblk0_apply (c : Dev nD) (t : Fin cfg0.N) (i : Fin 1024) (k : Fin 64) :
    iblk m c 0 t (ix2 i k) = token (tokensOf m c) (row t i) k := by
  rw [← tokens_entry]
  unfold row
  blk_ext [iblk, (idx t).1]

theorem iblk1_apply (c : Dev nD) (t : Fin cfg0.N) (j : Fin 8192) (k : Fin 64) :
    iblk m c 1 t (ix2 j k) = code (codesOf m c) j k := by
  unfold code codesOf
  blk_ext! [iblk, (idx t).2.1]

theorem iblk2_apply (c : Dev nD) (t : Fin cfg0.N) (k : Fin 64) (j : Fin 8192) :
    iblk m c 2 t (ix2 k j) = code (codesOf m c) j k := by
  rw [← codes_entry]
  blk_ext [iblk, (idx t).2.2.1]

/-- The squared norms of the codes are the specification's, whichever point's transposed codes they are computed from. -/
theorem norms_apply (c : Dev nD) (t : Fin cfg0.N) (j : Fin 8192) :
    k0_pay7 (F := Ideal) (iblk m c 2 t) (ix2 0 j) = sqNorm (code (codesOf m c) j) := by
  pointwise [k0_pay7]
  unfold sqNorm
  simp only [iblk2_apply]

/-- At the first point the squared norms are computed, and left in the scratch; -/
theorem point_A (c : Dev nD) (t : Fin cfg0.N) (h0 : t.val % 9 = 0) :
    Stored (k0_pay7 (iblk m c 2 t)) (iblk m c 0 t) (iblk m c 1 t) (outsAt0 m c t.val t.isLt).1
        (outsAt0 m c t.val t.isLt).2.1
      ∧ (outsAt0 m c t.val t.isLt).2.2 = k0_pay7 (F := Ideal) (iblk m c 2 t) := by
  rw [outsAt0_A m c t h0]
  dsimp only
  constructor
  · apply stored_A
  · apply scratch_A

/-- at the later ones what the scratch holds is used, and kept. -/
theorem point_B (c : Dev nD) (t : Fin cfg0.N) (h0 : ¬t.val % 9 = 0) (c2 : FVec Ideal S1x8192 .f32)
    (hc2 : (outsAt0 m c (t.val - 1) (Nat.lt_of_le_of_lt (Nat.sub_le _ _) t.isLt)).2.2 = c2) :
    Stored c2 (iblk m c 0 t) (iblk m c 1 t) (outsAt0 m c t.val t.isLt).1 (outsAt0 m c t.val t.isLt).2.1
      ∧ (outsAt0 m c t.val t.isLt).2.2 = c2 := by
  rw [outsAt0_B m c t h0, hc2]
  dsimp only
  constructor
  · apply stored_B
  · rfl

/-- So at every point what is stored is computed from the codes' squared norms, and these are what the scratch is left
    holding: by induction on the points. -/
theorem point (c : Dev nD) (n : ℕ) : ∀ t : Fin cfg0.N, t.val = n → ∃ c2 : FVec Ideal S1x8192 .f32,
    (∀ j : Fin 8192, c2 (ix2 0 j) = sqNorm (code (codesOf m c) j))
      ∧ Stored c2 (iblk m c 0 t) (iblk m c 1 t) (outsAt0 m c t.val t.isLt).1 (outsAt0 m c t.val t.isLt).2.1
      ∧ (outsAt0 m c t.val t.isLt).2.2 = c2 := by
  induction n with
  | zero => exact fun t ht => ⟨_, norms_apply m c t, point_A m c t (by omega)⟩
  | succ n ih =>
    intro t ht
    have hN : t.val < 9 := lt_of_lt_of_eq t.isLt (show cfg0.N = 9 from N_0)
    obtain ⟨c2, hc2, -, hs⟩ := ih ⟨t.val - 1, Nat.lt_of_le_of_lt (Nat.sub_le _ _) t.isLt⟩ (by dsimp only; omega)
    exact ⟨c2, hc2, point_B m c t (by omega) c2 hs⟩

/-- The products of a point: `-2` times the inner products of its tokens with the codes. -/
theorem products_apply (c : Dev nD) (t : Fin cfg0.N) (i : Fin 1024) (j : Fin 8192) :
    k0_pay9 (F := Ideal) (iblk m c 0 t) (iblk m c 1 t) (ix2 i j)
      = ∑ k, token (tokensOf m c) (row t i) k * ((-2 : ℝ) : EReal) * code (codesOf m c) j k := by
  pointwise [k0_pay9, k0_pay8]
  simp only [iblk0_apply, iblk1_apply]
  have h0 : Ideal.ofBits .f32 0x00000000#32 = 0 := by simp [Ideal.ofBits, Ideal.ieee]
  have h2 : Ideal.ofBits .f32 0xC0000000#32 = ((-2 : ℝ) : EReal) := by
    simp [Ideal.ofBits, Ideal.ieee, -EReal.coe_mul]; norm_num
  simp only [h0, h2, zero_add]

/-- The tokens' squared norms of a point. -/
theorem tokenNorms_apply (c : Dev nD) (t : Fin cfg0.N) (i : Fin 1024) :
    k0_pay10 (F := Ideal) (iblk m c 0 t) (ix2 i 0) = sqNorm (token (tokensOf m c) (row t i)) := by
  pointwise [k0_pay10, k0_pay8]
  unfold sqNorm
  simp only [iblk0_apply]

/-- What a point stores for its token `i` is the specification's distance and identifier. -/
theorem point_row (c : Dev nD) (t : Fin cfg0.N) (i : Fin 1024) :
    (outsAt0 m c t.val t.isLt).1 (ix2 i 0) = idsOf (tokensOf m c) (codesOf m c) (row t i)
      ∧ (outsAt0 m c t.val t.isLt).2.1 (ix2 i 0) = distOf (tokensOf m c) (codesOf m c) (row t i) := by
  obtain ⟨c2, hc2, hst, -⟩ := point m c t.val t rfl
  obtain ⟨j, hj, hd, hi⟩ := stored_row hst i
  have hs : score c2 (k0_pay9 (F := Ideal) (iblk m c 0 t) (iblk m c 1 t)) i
      = scores (token (tokensOf m c) (row t i)) (code (codesOf m c)) := by
    funext j
    unfold score scores
    split
    · rw [hc2, products_apply]
    · rfl
  rw [hs] at hj
  obtain rfl := hj.unique (nearest_spec _ _)
  have hd' := hd.trans (by rw [hs, tokenNorms_apply])
  rw [← hd, hd'] at hi
  exact ⟨hi, hd'⟩

/-- The same at any index of the block. -/
theorem point_idx (c : Dev nD) (t : Fin cfg0.N) (y : S1024x1.Idx) :
    (outsAt0 m c t.val t.isLt).1 y = idsOf (tokensOf m c) (codesOf m c) (row t (y 0))
      ∧ (outsAt0 m c t.val t.isLt).2.1 y = distOf (tokensOf m c) (codesOf m c) (row t (y 0)) := by
  have h := point_row m c t (y 0)
  have e : y = ix2 (y 0) 0 := by
    funext a
    fin_cases a
    · rfl
    · exact Subsingleton.elim (α := Fin 1) _ _
  exact ⟨(congrArg (outsAt0 m c t.val t.isLt).1 e).trans h.1, (congrArg (outsAt0 m c t.val t.isLt).2.1 e).trans h.2⟩

/-- The identifiers and the distances as arrays of one column. -/
def idsColumn (c : Dev nD) (i : S9216x1.Idx) : BitVec 32 := idsOf (tokensOf m c) (codesOf m c) (i 0)
def distColumn (c : Dev nD) (i : S9216x1.Idx) : EReal := distOf (tokensOf m c) (codesOf m c) (i 0)

/-- Element `y` of point `t`'s block of either result sits in the array at the token `y` stands for. -/
theorem emb3 (t : Fin cfg0.N) (y : S1024x1.Idx) : ((win0_3.blk t).view.emb y) 0 = row t (y 0) := by
  apply Fin.ext
  blk_simp [(idx t).2.2.2.1, row]

theorem emb4 (t : Fin cfg0.N) (y : S1024x1.Idx) : ((win0_4.blk t).view.emb y) 0 = row t (y 0) := by
  apply Fin.ext
  blk_simp [(idx t).2.2.2.2, row]

/-- The array of identifiers after the launch. -/
theorem ids_array (c : Dev nD) : (dats m 0 c).arrAt 3 cfg0.N = idsColumn m c := by
  refine (dats m 0 c).arrAt_eq_of_covers 3 _ (by decide +kernel) fun t hf y => ?_
  blk_simp
  rw [after0_3]
  exact ((point_idx m c t y).1).trans (congrArg (idsOf (tokensOf m c) (codesOf m c)) (emb3 t y).symm)

/-- The array of distances after the launch. -/
theorem dist_array (c : Dev nD) : (dats m 0 c).arrAt 4 cfg0.N = distColumn m c := by
  refine (dats m 0 c).arrAt_eq_of_covers 4 _ (by decide +kernel) fun t hf y => ?_
  blk_simp
  rw [after0_4]
  exact ((point_idx m c t y).2).trans (congrArg (distOf (tokensOf m c) (codesOf m c)) (emb4 t y).symm)

end Cert.KernelIdeal.Arrays

end
-- ==== Proof.KernelRun.lean ====
/-
  The kernel's run: its two results, laid out as 16 × 576, are the specification's identifiers and squared distances.
-/
module

public import proofs.«01_k».proof.Proof.KernelArray

@[expose] public section

noncomputable section

open Idealize.ShloMosaic Idealize.ShloMosaic.TcCoe Idealize.SL.Sem

namespace Cert.KernelIdeal.Arrays

open Cert.KernelIdeal Cert.KernelIdeal.Gen Cert.Nearest

variable (m : (ℓ : Loc nD τ sig) → Buf (Elt Ideal) ℓ) (ρ : Dev nD → PrngReg)

theorem arr_injective : Function.Injective (Pipeline.arrRef spec0) := by decide

/-- A column of one element per token, laid out as 16 × 576. -/
theorem ids_layout (c : Dev nD) (h) : shapeCast S16x576 (idsColumn m c) h = idsGrid (tokensOf m c) (codesOf m c) := by
  funext j
  rw [eq_ix2 j]
  pointwise
  unfold idsColumn idsGrid flat
  rfl

theorem dist_layout (c : Dev nD) (h) : shapeCast S16x576 (distColumn m c) h = distGrid (tokensOf m c) (codesOf m c) := by
  funext j
  rw [eq_ix2 j]
  pointwise
  unfold distColumn distGrid flat
  rfl

/-- The identifiers as the lines after the region leave them. -/
theorem tail_ids (c : Dev nD) : Pipeline.afterTail₀ cfgs (dats m) 0 (V0 m) [hostOps1] c main_v3
    = idsGrid (tokensOf m c) (codesOf m c) := by
  have ha := (Pipeline.withArrays_arr spec0 arr_injective c (V0 m c) (fun w => (dats m 0 c).arrAt w cfg0.N) 3).trans
    (ids_array m c)
  unfold Pipeline.afterTail₀
  simp only [hostOps1, List.flatten_cons, List.flatten_nil, List.append_nil]
  after_results
  exact (congrArg (fun X : IVec S9216x1 32 => shapeCast S16x576 X shapeCasts_S9216x1_S16x576) ha).trans (ids_layout m c _)

/-- The distances as the lines after the region leave them. -/
theorem tail_dist (c : Dev nD) : Pipeline.afterTail₀ cfgs (dats m) 0 (V0 m) [hostOps1] c main_v4
    = distGrid (tokensOf m c) (codesOf m c) := by
  have ha := (Pipeline.withArrays_arr spec0 arr_injective c (V0 m c) (fun w => (dats m 0 c).arrAt w cfg0.N) 4).trans
    (dist_array m c)
  unfold Pipeline.afterTail₀
  simp only [hostOps1, List.flatten_cons, List.flatten_nil, List.append_nil]
  after_results
  exact (congrArg (fun X : FVec Ideal S9216x1 .f32 => shapeCast S16x576 X shapeCasts_S9216x1_S16x576) ha).trans
    (dist_layout m c _)

/-- The kernel runs to the specification's identifiers and distances, its arguments unchanged. -/
theorem run : θ_run defs (onTc (τ := τ) (main (F := Ideal))) ⟨m, fun _ => 0, ρ⟩ (fun r => ∀ c : Dev nD,
    r.2.mem ((c.tc : Thread nD τ).loc main_v3) = idsGrid (tokensOf m c) (codesOf m c)
    ∧ r.2.mem ((c.tc : Thread nD τ).loc main_v4) = distGrid (tokensOf m c) (codesOf m c)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c =>
    ⟨((h c).2 main_v3 (Pipeline.mem_restRefs_of main_v3 (by decide) (by decide))).trans (tail_ids m c),
      ((h c).2 main_v4 (Pipeline.mem_restRefs_of main_v4 (by decide) (by decide))).trans (tail_dist m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩) (run_main m ρ)

end Cert.KernelIdeal.Arrays

end
-- ==== Proof.ReferenceValue.lean ====
/-
  What the reference computes for finite arguments: its identifiers and its least squared distances are the
  specification's.
-/
module

public import proofs.«01_k».proof.Proof.ReferenceTerms
public import proofs.«01_k».proof.Proof.Equation
public import Idealize.ShloMosaic.Lib.Claim

@[expose] public section

noncomputable section

open Idealize.ShloMosaic Idealize.ShloMosaic.TcCoe Idealize.SL.Sem

namespace Cert.ReferenceIdeal.Value

open Cert.ReferenceIdeal Cert.ReferenceIdeal.Gen Cert.ReferenceIdeal.ArgMin Cert.Nearest

variable (z : FVec Ideal S16x576x64 .f32) (e : FVec Ideal S8192x64 .f32)

/-- An identifier is the position, unless the least squared distance is above 128. -/
theorem choose_apply (l : FVec Ideal S9216 .f32) (p : IVec S9216 32) (r : Fin 9216) :
    select (cmpf .ole l (broadcastInDim S9216 ![] bcast_S_S9216 (constant S_ .f32 0x43000000#32))) p
        (broadcastInDim S9216 ![] bcast_S_S9216 (constantI S_ 32 8192#32)) (ix1 r)
      = if l (ix1 r) ≤ ((128 : ℝ) : EReal) then p (ix1 r) else 8192#32 := by
  have h128 : Ideal.ofBits .f32 0x43000000#32 = ((128 : ℝ) : EReal) := by
    simp [Ideal.ofBits, Ideal.ieee, -EReal.coe_mul]; norm_num
  pointwise
  rw [h128]

section

variable (hz : ∀ r, Real64 (token z r)) (he : ∀ j, Real64 (code e j))
include hz he

/-- The least squared distance is the specification's … -/
theorem least_apply (r : Fin 9216) : least z e (ix1 r) = distOf z e r := by
  obtain ⟨h1, h2, h3⟩ := nearest_firstMin (hz r) he
  unfold least
  rw [min_apply h1 h2 (masked z e) r (masked_apply z e r), h3]
  unfold distOf
  rfl

/-- Its code is the nearest one of the specification … -/
theorem position_apply (r : Fin 9216) : position z e (ix1 r) = BitVec.ofNat 32 (nearest (token z r) (code e)) := by
  obtain ⟨h1, h2, -⟩ := nearest_firstMin (hz r) he
  unfold position
  rw [place_apply h1 h2 (masked z e) r (masked_apply z e r)]

/-- So the identifier is the specification's. -/
theorem idents_apply (r : Fin 9216) : idents z e (ix1 r) = idsOf z e r := by
  unfold idents
  rw [choose_apply, least_apply z e hz he, position_apply z e hz he]
  unfold idsOf identifier distOf
  rfl

/-- Laid out as 16 × 576, they are the specification's. -/
theorem idents_layout (h) : shapeCast S16x576 (idents z e) h = idsGrid z e := by
  funext j
  rw [eq_ix2 j]
  pointwise
  rw [idents_apply z e hz he]
  rfl

theorem least_layout (h) : shapeCast S16x576 (least z e) h = distGrid z e := by
  funext j
  rw [eq_ix2 j]
  pointwise
  rw [least_apply z e hz he]
  rfl

end

end Cert.ReferenceIdeal.Value

end
-- ==== Proof.Finite.lean ====
/-
  The precondition read back: where it holds, every element of both arguments is a real number, so every token and every
  code is a real vector.
-/
module

public import proofs.«01_k».proof.Proof.Gen.Pre_finite
public import proofs.«01_k».proof.Proof.Equation
public import Idealize.ShloMosaic.Lib.ReduceAll
public import Idealize.ShloMosaic.Lib.Pointwise
public import Idealize.ShloMosaic.PureOps.Ideal.Laws

@[expose] public section

noncomputable section

open Idealize.ShloMosaic Idealize.SL.Sem

namespace Cert.Finite

open Cert.Pre_finite Cert.Nearest

/-- An extended real below ⊤ in absolute value is a real number. -/
theorem real_of_abs_lt {a : EReal} (h : max a (-a) < ⊤) : ∃ x : ℝ, a = x := by
  have h1 : a ≠ ⊤ := ((le_max_left _ _).trans_lt h).ne
  have h2 : a ≠ ⊥ := by
    rintro rfl
    simp at h
  exact ⟨a.toReal, (EReal.coe_toReal h1 h2).symm⟩

/-- So it is where the comparison of the absolute value with +∞ holds. -/
theorem real_of_bit {s : Shape} (x : FVec Ideal s .f32) (b : S_.BroadcastsInDim s (![] : Fin 0 → Fin s.rank)) (i : s.Idx)
    (h : cmpf .olt (Host.absf x) (broadcastInDim s ![] b (constant S_ .f32 0x7F800000#32)) i = 1#1) :
    ∃ y : ℝ, x i = y := by
  refine real_of_abs_lt ?_
  have ht : Ideal.ofBits .f32 0x7F800000#32 = ⊤ := by simp [Ideal.ofBits, Ideal.ieee]
  have h' : Ideal.cmp .olt (max (x i) (-(x i))) (Ideal.ofBits .f32 0x7F800000#32) = 1#1 := h
  rw [ht] at h'
  by_contra hn
  simp [Ideal.cmp, hn] at h'

variable {z : FVec Ideal S16x576x64 .f32} {e : FVec Ideal S8192x64 .f32}

/-- The precondition says of every element of both arguments that it is a real number. -/
theorem elements (h : Cert.Pre_finite.fn (F := Ideal) z e = fun _ => 1#1) :
    (∀ i, ∃ y : ℝ, z i = y) ∧ ∀ i, ∃ y : ℝ, e i = y := by
  haveI : Subsingleton S_.Idx := ⟨fun a b => funext fun k => k.elim0⟩
  obtain ⟨h1, h2⟩ := IntOp.andi_eq_one.mp (congrFun h (fun k => k.elim0))
  exact ⟨fun i => real_of_bit z _ i (Host.reduce_andi_all _ _ _ _ _ h1 i),
    fun i => real_of_bit e _ i (Host.reduce_andi_all _ _ _ _ _ h2 i)⟩

/-- Every token is a real vector … -/
theorem token_real (h : Cert.Pre_finite.fn (F := Ideal) z e = fun _ => 1#1) (r : Fin 9216) : Real64 (token z r) :=
  ⟨fun k => ((elements h).1 _).choose, fun k => ((elements h).1 _).choose_spec⟩

/-- … and so is every code. -/
theorem code_real (h : Cert.Pre_finite.fn (F := Ideal) z e = fun _ => 1#1) (j : Fin 8192) : Real64 (code e j) :=
  ⟨fun k => ((elements h).2 _).choose, fun k => ((elements h).2 _).choose_spec⟩

end Cert.Finite

end
-- ==== Proof.Algebraic.lean ====
/-
  The value claim: for finite arguments the kernel and the reference both end with the specification's identifiers and
  squared distances.
-/
module

public import proofs.«01_k».proof.Defs
public import proofs.«01_k».proof.Proof.KernelRun
public import proofs.«01_k».proof.Proof.ReferenceRun
public import proofs.«01_k».proof.Proof.ReferenceValue
public import proofs.«01_k».proof.Proof.Finite
public import Idealize.ShloMosaic.Lib.Claim

@[expose] public section

noncomputable section

open Idealize.ShloMosaic Idealize.ShloMosaic.TcCoe Idealize.SL.Sem

namespace Cert.Value

open Cert.Nearest Cert.ReferenceIdeal.Value

/-- Both programs run, and end with equal identifiers and equal least squared distances. -/
theorem algebraic : Cert.algebraic_KernelIdeal_ReferenceIdeal_pre_finite := by
  intro m g m' g' hpre hagree
  refine ⟨fun c => idsGrid (Cert.KernelIdeal.Arrays.tokensOf m c) (Cert.KernelIdeal.Arrays.codesOf m c),
    fun c => distGrid (Cert.KernelIdeal.Arrays.tokensOf m c) (Cert.KernelIdeal.Arrays.codesOf m c),
    Cert.KernelIdeal.Arrays.run m g, θ_run_mono (Cert.ReferenceIdeal.Value.run m' g') ?_⟩
  intro r h c
  obtain ⟨h0, h1, h2, h3⟩ := h c
  have hz := Cert.Finite.token_real (hpre c)
  have he := Cert.Finite.code_real (hpre c)
  rw [(hagree c).1, (hagree c).2] at h0 h1
  exact ⟨h0.trans (idents_layout _ _ hz he _), h1.trans (least_layout _ _ hz he _), h2, h3⟩

end Cert.Value

end
-- ==== Proof.lean ====
/-
  The proof of `Cert.Claim`: the frames of the kernel and of the reference, the idealization (no operation rewritten), and
  the equality of both results over the extended reals.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite
public import proofs.«01_k».proof.Proof.ReferenceFrame
public import proofs.«01_k».proof.Proof.Algebraic

@[expose] public section

noncomputable section

namespace Cert.Proof

open Idealize.ShloMosaic Idealize.SL.Sem

/-- Everything the certificate claims. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  Cert.ReferenceIdeal.Value.frame,
  fun m ρ _ => Cert.ReferenceIdeal.Value.frame m ρ trivial,
  trivial,
  Cert.Value.algebraic⟩

end Cert.Proof

end
